-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x64x384 : Shape := ⟨3, ![64, 64, 384]⟩
abbrev S64x2048 : Shape := ⟨2, ![64, 2048]⟩
abbrev S32x2048 : Shape := ⟨2, ![32, 2048]⟩
abbrev S64x32x384 : Shape := ⟨3, ![64, 32, 384]⟩
abbrev S128x2048 : Shape := ⟨2, ![128, 2048]⟩
abbrev S384x128 : Shape := ⟨2, ![384, 128]⟩
abbrev S1x2048 : Shape := ⟨2, ![1, 2048]⟩
abbrev S64x1x384 : Shape := ⟨3, ![64, 1, 384]⟩
abbrev S64x384 : Shape := ⟨2, ![64, 384]⟩
abbrev S64x128 : Shape := ⟨2, ![64, 128]⟩
abbrev S192x128 : Shape := ⟨2, ![192, 128]⟩
abbrev S192x2048 : Shape := ⟨2, ![192, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x64, .f32⟩
  | .hbm, ⟨1, _⟩ => ⟨S64x64x384, .f32⟩
  | .hbm, ⟨2, _⟩ => ⟨S64x2048, .f32⟩
  | .hbm, ⟨3, _⟩ => ⟨S64x2048, .f32⟩
  | .hbm, ⟨4, _⟩ => ⟨S2048x64, .f32⟩
  | .local _ .vmem, ⟨0, _⟩ => ⟨S32x2048, .f32⟩
  | .local _ .vmem, ⟨1, _⟩ => ⟨S32x2048, .f32⟩
  | .local _ .vmem, ⟨2, _⟩ => ⟨S64x32x384, .f32⟩
  | .local _ .vmem, ⟨3, _⟩ => ⟨S64x32x384, .f32⟩
  | .local _ .vmem, ⟨4, _⟩ => ⟨S64x2048, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2048x64 : Shape := ⟨2, ![2048, 64]⟩
abbrev S64x64x384 : Shape := ⟨3, ![64, 64, 384]⟩
abbrev S_ : Shape := ⟨0, ![]⟩
abbrev S131072 : Shape := ⟨1, ![131072]⟩
abbrev S131072x1 : Shape := ⟨2, ![131072, 1]⟩
abbrev S3 : Shape := ⟨1, ![3]⟩
abbrev S1x3 : Shape := ⟨2, ![1, 3]⟩
abbrev S131072x3 : Shape := ⟨2, ![131072, 3]⟩
abbrev S393216 : Shape := ⟨1, ![393216]⟩
abbrev S393216x1 : Shape := ⟨2, ![393216, 1]⟩
abbrev S393216x2 : Shape := ⟨2, ![393216, 2]⟩
abbrev S64x393216 : Shape := ⟨2, ![64, 393216]⟩
abbrev S64x2048x64x3 : Shape := ⟨4, ![64, 2048, 64, 3]⟩
abbrev S2048x64x64x3 : Shape := ⟨4, ![2048, 64, 64, 3]⟩
abbrev S1x2048x64 : Shape := ⟨3, ![1, 2048, 64]⟩
abbrev S3x2048x64 : Shape := ⟨3, ![3, 2048, 64]⟩

abbrev nBuf : Space → Nat
  | .hbm => 175
  | .vmem => 0
  | .smem => 0
  | _ => 0

abbrev hbmTy0_0 (i : Nat) : BufTy := match i % 128 with
  | 0 => ⟨S2048x64, .f32⟩
  | 1 => ⟨S64x64x384, .f32⟩
  | 2 => ⟨S_, .f32⟩
  | 3 => ⟨S2048x64, .f32⟩
  | 4 => ⟨S2048x64, .f32⟩
  | 5 => ⟨S_, .f32⟩
  | 6 => ⟨S2048x64, .f32⟩
  | 7 => ⟨S2048x64, .f32⟩
  | 8 => ⟨S_, .f32⟩
  | 9 => ⟨S2048x64, .f32⟩
  | 10 => ⟨S2048x64, .f32⟩
  | 11 => ⟨S2048x64, .i32⟩
  | 12 => ⟨S_, .i32⟩
  | 13 => ⟨S2048x64, .i32⟩
  | 14 => ⟨S2048x64, .i32⟩
  | 15 => ⟨S_, .i32⟩
  | 16 => ⟨S2048x64, .i32⟩
  | 17 => ⟨S2048x64, .i32⟩
  | 18 => ⟨S_, .i32⟩
  | 19 => ⟨S2048x64, .i32⟩
  | 20 => ⟨S2048x64, .i32⟩
  | 21 => ⟨S_, .i32⟩
  | 22 => ⟨S2048x64, .i32⟩
  | 23 => ⟨S2048x64, .i32⟩
  | 24 => ⟨S2048x64, .f32⟩
  | 25 => ⟨S_, .f32⟩
  | 26 => ⟨S2048x64, .f32⟩
  | 27 => ⟨S2048x64, .f32⟩
  | 28 => ⟨S_, .f32⟩
  | 29 => ⟨S2048x64, .f32⟩
  | 30 => ⟨S2048x64, .f32⟩
  | 31 => ⟨S_, .f32⟩
  | 32 => ⟨S2048x64, .f32⟩
  | 33 => ⟨S2048x64, .f32⟩
  | 34 => ⟨S2048x64, .f32⟩
  | 35 => ⟨S_, .f32⟩
  | 36 => ⟨S2048x64, .f32⟩
  | 37 => ⟨S2048x64, .f32⟩
  | 38 => ⟨S_, .f32⟩
  | 39 => ⟨S2048x64, .f32⟩
  | 40 => ⟨S2048x64, .f32⟩
  | 41 => ⟨S_, .f32⟩
  | 42 => ⟨S2048x64, .f32⟩
  | 43 => ⟨S2048x64, .f32⟩
  | 44 => ⟨S2048x64, .f32⟩
  | 45 => ⟨S2048x64, .f32⟩
  | 46 => ⟨S2048x64, .f32⟩
  | 47 => ⟨S_, .f32⟩
  | 48 => ⟨S2048x64, .f32⟩
  | 49 => ⟨S2048x64, .f32⟩
  | 50 => ⟨S_, .f32⟩
  | 51 => ⟨S2048x64, .f32⟩
  | 52 => ⟨S2048x64, .f32⟩
  | 53 => ⟨S131072, .i32⟩
  | 54 => ⟨S131072x1, .i32⟩
  | 55 => ⟨S3, .i32⟩
  | 56 => ⟨S1x3, .i32⟩
  | 57 => ⟨S131072x3, .i32⟩
  | 58 => ⟨S131072x3, .i32⟩
  | 59 => ⟨S131072x3, .i32⟩
  | 60 => ⟨S393216, .i32⟩
  | 61 => ⟨S_, .i32⟩
  | 62 => ⟨S_, .i32⟩
  | 63 => ⟨S393216, .i32⟩
  | 64 => ⟨S393216, .i32⟩
  | 65 => ⟨S393216, .i32⟩
  | 66 => ⟨S_, .i32⟩
  | 67 => ⟨S393216, .i32⟩
  | 68 => ⟨S393216, .i1⟩
  | 69 => ⟨S393216, .i32⟩
  | 70 => ⟨S393216, .i32⟩
  | 71 => ⟨S_, .i32⟩
  | 72 => ⟨S393216, .i32⟩
  | 73 => ⟨S393216, .i1⟩
  | 74 => ⟨S393216, .i1⟩
  | 75 => ⟨S_, .i32⟩
  | 76 => ⟨S393216, .i32⟩
  | 77 => ⟨S393216, .i32⟩
  | 78 => ⟨S393216, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S393216, .i32⟩
  | 86 => ⟨S393216, .i32⟩
  | 87 => ⟨S_, .i32⟩
  | 88 => ⟨S393216, .i32⟩
  | 89 => ⟨S393216, .i1⟩
  | 90 => ⟨S_, .i32⟩
  | 91 => ⟨S393216, .i32⟩
  | 92 => ⟨S393216, .i1⟩
  | 93 => ⟨S_, .i32⟩
  | 94 => ⟨S_, .i1⟩
  | 95 => ⟨S393216, .i1⟩
  | 96 => ⟨S393216, .i1⟩
  | 97 => ⟨S393216, .i1⟩
  | 98 => ⟨S393216, .i32⟩
  | 99 => ⟨S393216, .i32⟩
  | 100 => ⟨S393216, .i32⟩
  | 101 => ⟨S393216, .i32⟩
  | 102 => ⟨S_, .i32⟩
  | 103 => ⟨S393216, .i32⟩
  | 104 => ⟨S393216, .i1⟩
  | 105 => ⟨S_, .i32⟩
  | 106 => ⟨S393216, .i32⟩
  | 107 => ⟨S393216, .i32⟩
  | 108 => ⟨S393216, .i32⟩
  | 109 => ⟨S_, .i32⟩
  | 110 => ⟨S393216, .i32⟩
  | 111 => ⟨S393216, .i1⟩
  | 112 => ⟨S_, .i32⟩
  | 113 => ⟨S393216, .i32⟩
  | 114 => ⟨S393216, .i32⟩
  | 115 => ⟨S393216, .i32⟩
  | 116 => ⟨S393216x1, .i32⟩
  | 117 => ⟨S393216x1, .i32⟩
  | 118 => ⟨S393216x2, .i32⟩
  | 119 => ⟨S64x393216, .f32⟩
  | 120 => ⟨S64x2048x64x3, .f32⟩
  | 121 => ⟨S2048x64x64x3, .f32⟩
  | 122 => ⟨S_, .f32⟩
  | 123 => ⟨S2048x64, .f32⟩
  | 124 => ⟨S_, .f32⟩
  | 125 => ⟨S2048x64, .f32⟩
  | 126 => ⟨S2048x64, .f32⟩
  | 127 => ⟨S2048x64, .f32⟩
  | _ => ⟨S2048x64, .f32⟩

abbrev hbmTy0_1 (i : Nat) : BufTy := match i % 128 with
  | 0 => ⟨S_, .f32⟩
  | 1 => ⟨S2048x64, .f32⟩
  | 2 => ⟨S2048x64, .f32⟩
  | 3 => ⟨S_, .f32⟩
  | 4 => ⟨S2048x64, .f32⟩
  | 5 => ⟨S2048x64, .f32⟩
  | 6 => ⟨S2048x64, .f32⟩
  | 7 => ⟨S_, .f32⟩
  | 8 => ⟨S2048x64, .f32⟩
  | 9 => ⟨S2048x64, .f32⟩
  | 10 => ⟨S_, .f32⟩
  | 11 => ⟨S2048x64, .f32⟩
  | 12 => ⟨S_, .f32⟩
  | 13 => ⟨S2048x64, .f32⟩
  | 14 => ⟨S2048x64, .f32⟩
  | 15 => ⟨S2048x64, .f32⟩
  | 16 => ⟨S_, .f32⟩
  | 17 => ⟨S2048x64, .f32⟩
  | 18 => ⟨S2048x64, .f32⟩
  | 19 => ⟨S_, .f32⟩
  | 20 => ⟨S2048x64, .f32⟩
  | 21 => ⟨S2048x64, .f32⟩
  | 22 => ⟨S2048x64, .f32⟩
  | 23 => ⟨S_, .f32⟩
  | 24 => ⟨S2048x64, .f32⟩
  | 25 => ⟨S2048x64, .f32⟩
  | 26 => ⟨S_, .f32⟩
  | 27 => ⟨S2048x64, .f32⟩
  | 28 => ⟨S_, .f32⟩
  | 29 => ⟨S2048x64, .f32⟩
  | 30 => ⟨S2048x64, .f32⟩
  | 31 => ⟨S2048x64, .f32⟩
  | 32 => ⟨S_, .f32⟩
  | 33 => ⟨S2048x64, .f32⟩
  | 34 => ⟨S2048x64, .f32⟩
  | 35 => ⟨S_, .f32⟩
  | 36 => ⟨S2048x64, .f32⟩
  | 37 => ⟨S2048x64, .f32⟩
  | 38 => ⟨S2048x64, .f32⟩
  | 39 => ⟨S_, .f32⟩
  | 40 => ⟨S2048x64, .f32⟩
  | 41 => ⟨S2048x64, .f32⟩
  | 42 => ⟨S1x2048x64, .f32⟩
  | 43 => ⟨S1x2048x64, .f32⟩
  | 44 => ⟨S1x2048x64, .f32⟩
  | 45 => ⟨S3x2048x64, .f32⟩
  | 46 => ⟨S2048x64, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_13 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v44 : Ref sig .tc := ⟨.hbm, 78, rfl⟩
abbrev main_c_14 : Ref sig .tc := ⟨.hbm, 79, rfl⟩
abbrev main_call1_v0 : Ref sig .tc := ⟨.hbm, 80, rfl⟩
abbrev main_call1_c : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_c_1 : Ref sig .tc := ⟨.hbm, 87, rfl⟩
abbrev main_call1_v5 : Ref sig .tc := ⟨.hbm, 88, rfl⟩
abbrev main_call1_v6 : Ref sig .tc := ⟨.hbm, 89, rfl⟩
abbrev main_call1_c_2 : Ref sig .tc := ⟨.hbm, 90, rfl⟩
abbrev main_call1_v7 : Ref sig .tc := ⟨.hbm, 91, rfl⟩
abbrev main_call1_v8 : Ref sig .tc := ⟨.hbm, 92, rfl⟩
abbrev main_call1_c_3 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_v45 : Ref sig .tc := ⟨.hbm, 100, rfl⟩
abbrev main_v46 : Ref sig .tc := ⟨.hbm, 101, rfl⟩
abbrev main_c_15 : Ref sig .tc := ⟨.hbm, 102, rfl⟩
abbrev main_v47 : Ref sig .tc := ⟨.hbm, 103, rfl⟩
abbrev main_v48 : Ref sig .tc := ⟨.hbm, 104, rfl⟩
abbrev main_c_16 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_c_17 : Ref sig .tc := ⟨.hbm, 109, rfl⟩
abbrev main_v52 : Ref sig .tc := ⟨.hbm, 110, rfl⟩
abbrev main_v53 : Ref sig .tc := ⟨.hbm, 111, rfl⟩
abbrev main_c_18 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_19 : Ref sig .tc := ⟨.hbm, 122, rfl⟩
abbrev main_v63 : Ref sig .tc := ⟨.hbm, 123, rfl⟩
abbrev main_cst_20 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_21 : Ref sig .tc := ⟨.hbm, 128, rfl⟩
abbrev main_v67 : Ref sig .tc := ⟨.hbm, 129, rfl⟩
abbrev main_v68 : Ref sig .tc := ⟨.hbm, 130, rfl⟩
abbrev main_cst_22 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_23 : Ref sig .tc := ⟨.hbm, 135, rfl⟩
abbrev main_v72 : Ref sig .tc := ⟨.hbm, 136, rfl⟩
abbrev main_v73 : Ref sig .tc := ⟨.hbm, 137, rfl⟩
abbrev main_cst_24 : Ref sig .tc := ⟨.hbm, 138, rfl⟩
abbrev main_v74 : Ref sig .tc := ⟨.hbm, 139, rfl⟩
abbrev main_cst_25 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_26 : Ref sig .tc := ⟨.hbm, 144, rfl⟩
abbrev main_v78 : Ref sig .tc := ⟨.hbm, 145, rfl⟩
abbrev main_v79 : Ref sig .tc := ⟨.hbm, 146, rfl⟩
abbrev main_cst_27 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_cst_28 : Ref sig .tc := ⟨.hbm, 151, rfl⟩
abbrev main_v83 : Ref sig .tc := ⟨.hbm, 152, rfl⟩
abbrev main_v84 : Ref sig .tc := ⟨.hbm, 153, rfl⟩
abbrev main_cst_29 : Ref sig .tc := ⟨.hbm, 154, rfl⟩
abbrev main_v85 : Ref sig .tc := ⟨.hbm, 155, rfl⟩
abbrev main_cst_30 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_31 : Ref sig .tc := ⟨.hbm, 160, rfl⟩
abbrev main_v89 : Ref sig .tc := ⟨.hbm, 161, rfl⟩
abbrev main_v90 : Ref sig .tc := ⟨.hbm, 162, rfl⟩
abbrev main_cst_32 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_cst_33 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩

abbrev nD : Nat := 1
abbrev τ : Topo := Topo.v7x

variable {F : FTy → Type} [FloatOps F]
-- ==== Proof.Step.lean ====
/- One feature's contribution, as the kernel computes it, written once for every feature; and the accumulator after
   any number of the 32 features of a grid point. The kernel's text writes the same lines out 32 times. -/
module

public import proofs.«01_k».proof.Proof.Gen.KernelIdeal.Frame
public import Idealize.ShloMosaic.Lib.WholeRead

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- Row `j` of a block of 32 features lies in the block. -/
theorem row_slices (j : Fin 32) : S32x2048.Slices ![j.val, 0] S1x2048 :=
  ⟨rfl, fun a => match a with
    | ⟨0, _⟩ => by show j.val + 1 ≤ 32; have := j.isLt; omega
    | ⟨1, _⟩ => by show 0 + 2048 ≤ 2048; omega⟩

/-- The weights of feature `j` lie in the block of weights. -/
theorem slab_inb (j : Fin 32) : ∀ a, (![0, j.val, 0] : Fin 3 → Nat) a + S64x1x384.size a ≤ S64x32x384.size a :=
  fun a => match a with
    | ⟨0, _⟩ => by show 0 + 64 ≤ 64; omega
    | ⟨1, _⟩ => by show j.val + 1 ≤ 32; have := j.isLt; omega
    | ⟨2, _⟩ => by show 0 + 384 ≤ 384; omega

/-- The inputs of feature `j`, one per token. -/
def rowOf (xb : FVec F S32x2048 .f32) (j : Fin 32) : FVec F S1x2048 .f32 :=
  extractStridedSlice S1x2048 ![j.val, 0] xb (row_slices j)

/-- A row that holds one word everywhere. -/
def flatRow (w : BitVec 32) : FVec F S1x2048 .f32 := broadcast S1x2048 (Scalar.ofBits .f32 w : F .f32)

/-- The segment of each token's input, a float: the floor of `(x + 1) * 64`, clipped to `[0, 127]`. -/
def segRow (x : FVec F S1x2048 .f32) : FVec F S1x2048 .f32 :=
  minimumf (flatRow 0x42FE0000#32) (maximumf (flatRow 0x00000000#32)
    (floor (mulf (addf x (flatRow 0x3F800000#32)) (flatRow 0x42800000#32))))

/-- The local coordinate of each token's input in its segment. -/
def locRow (x : FVec F S1x2048 .f32) : FVec F S1x2048 .f32 :=
  subf (mulf (subf x (subf (mulf (segRow x) (flatRow 0x3C800000#32)) (flatRow 0x3F800000#32))) (flatRow 0x43000000#32))
    (flatRow 0x3F800000#32)

/-- The polynomial of the node -1, at the local coordinates. -/
def basis0 (u : FVec F S1x2048 .f32) : FVec F S1x2048 .f32 :=
  mulf (mulf (flatRow 0x3F000000#32) u) (subf u (flatRow 0x3F800000#32))
/-- The polynomial of the node 0. -/
def basis1 (u : FVec F S1x2048 .f32) : FVec F S1x2048 .f32 :=
  subf (flatRow 0x3F800000#32) (mulf u u)
/-- The polynomial of the node 1. -/
def basis2 (u : FVec F S1x2048 .f32) : FVec F S1x2048 .f32 :=
  mulf (mulf (flatRow 0x3F000000#32) u) (addf u (flatRow 0x3F800000#32))

/-- The one-hot matrix of the segments: 1 at (segment of token `t`, `t`). -/
def hotOf (s : FVec F S1x2048 .f32) : FVec F S128x2048 .bf16 :=
  select (cmpf .oeq (k0_pay2 (F := F)) (broadcastTo S128x2048 (truncf .bf16 s bitsLt_bf16_f32) broadcasts_S1x2048_S128x2048))
    (broadcast S128x2048 (Scalar.ofBits .bf16 0x3F80#16 : F .bf16)) (broadcast S128x2048 (Scalar.ofBits .bf16 0x0000#16 : F .bf16))

/-- A feature's weights at every third column, picked by a selection matrix. -/
def picked (w : FVec F S64x384 .bf16) (sel : FVec F S384x128 .bf16) : FVec F S64x128 .bf16 :=
  truncf .bf16 (matmul dot_S64x384_S384x128_S64x128_1_0_0_1_n_n none w sel (constant S64x128 .f32 0x00000000#32)) bitsLt_bf16_f32

/-- The feature's weights, the three nodes' blocks one under the other. -/
def stacked (w : Vec F S64x1x384 .f32) : FVec F S192x128 .bf16 :=
  let wb : FVec F S64x384 .bf16 := truncf .bf16 (shapeCast S64x384 w shapeCasts_S64x1x384_S64x384) bitsLt_bf16_f32
  concatenate S192x128 0 [⟨S64x128, picked wb k0_pay5⟩, ⟨S64x128, picked wb k0_pay6⟩, ⟨S64x128, picked wb k0_pay7⟩]
    concatenates_S64x128_S64x128_S64x128_S192x128_d0

/-- The weights of each token's segment: the stacked weights times the one-hot matrix. -/
def gathered (w : Vec F S64x1x384 .f32) (x : FVec F S1x2048 .f32) : FVec F S192x2048 .f32 :=
  matmul dot_S192x128_S128x2048_S192x2048_1_0_0_1_n_n none (stacked w) (hotOf (segRow x)) (constant S192x2048 .f32 0x00000000#32)

/-- The accumulator after one more feature. -/
def step (w : Vec F S64x1x384 .f32) (x : FVec F S1x2048 .f32) (acc : FVec F S64x2048 .f32) : FVec F S64x2048 .f32 :=
  addf acc (addf (addf
    (mulf (broadcastTo S64x2048 (basis0 (locRow x)) broadcasts_S1x2048_S64x2048)
      (extractStridedSlice S64x2048 ![0, 0] (gathered w x) slices_S192x2048_o0_0_S64x2048))
    (mulf (broadcastTo S64x2048 (basis1 (locRow x)) broadcasts_S1x2048_S64x2048)
      (extractStridedSlice S64x2048 ![64, 0] (gathered w x) slices_S192x2048_o64_0_S64x2048)))
    (mulf (broadcastTo S64x2048 (basis2 (locRow x)) broadcasts_S1x2048_S64x2048)
      (extractStridedSlice S64x2048 ![128, 0] (gathered w x) slices_S192x2048_o128_0_S64x2048)))

/-- The accumulator after the first `n` features of a grid point: of each, its weights `W j`; of all, their inputs `xb`. -/
def accN (W : Fin 32 → Vec F S64x1x384 .f32) (xb : FVec F S32x2048 .f32) : (n : ℕ) → n ≤ 32 → FVec F S64x2048 .f32
  | 0, _ => broadcast S64x2048 (Scalar.ofBits .f32 0x00000000#32 : F .f32)
  | n + 1, h => step (W ⟨n, h⟩) (rowOf xb ⟨n, h⟩) (accN W xb n (Nat.le_of_succ_le h))

/-- What a load of the whole block of inputs reads. -/
def loadX (arg1 : Memref sig .tc .vmem S32x2048 .f32) (harg1 : arg1.IsWhole) (x0 : Vec F S32x2048 .f32) : FVec F S32x2048 .f32 :=
  shapeCast S32x2048 (View.readAt (Elt F) arg1.view (Rect.unit ![0, 0] S32x2048.size inb_S32x2048_S32x2048_0_0).toLoadRect
      (harg1.unread x0)) shapeCasts_S32x2048_S32x2048

/-- What the load of feature `j`'s weights reads. -/
def loadW (arg2 : Memref sig .tc .vmem S64x32x384 .f32) (harg2 : arg2.IsWhole) (x1 : Vec F S64x32x384 .f32) (j : Fin 32) :
    Vec F S64x1x384 .f32 :=
  View.readAt (Elt F) arg2.view
    (Rect.unit (s := S64x32x384) ![0, j.val, 0] S64x1x384.size (slab_inb j)).toLoadRect (harg2.unread x1)

/-- What the body stores at a point that adds to the block already there: that block plus the accumulator. -/
theorem stored_B (c : Dev nD) (arg1 : Memref sig .tc .vmem S32x2048 .f32) (harg1 : arg1.IsWhole)
    (arg2 : Memref sig .tc .vmem S64x32x384 .f32) (harg2 : arg2.IsWhole) (arg3 : Memref sig .tc .vmem S64x2048 .f32)
    (harg3 : arg3.IsWhole) (x0 : Vec F S32x2048 .f32) (x1 : Vec F S64x32x384 .f32) (xo2 : Vec F S64x2048 .f32) :
    kernelRun0_B.sl.r_192 c arg1 harg1 arg2 harg2 arg3 harg3 x0 x1 xo2
      = addf (shapeCast S64x2048 (View.readAt (Elt F) arg3.view (Rect.unit ![0, 0] S64x2048.size inb_S64x2048_S64x2048_0_0).toLoadRect
          (harg3.unread xo2)) shapeCasts_S64x2048_S64x2048)
        (accN (loadW arg2 harg2 x1) (loadX arg1 harg1 x0) 32 le_rfl) := by
  sl_kernel_rfl

/-- What the body stores at the point that starts the block: what it reads back of it plus the accumulator. -/
theorem stored_A (c : Dev nD) (arg1 : Memref sig .tc .vmem S32x2048 .f32) (harg1 : arg1.IsWhole)
    (arg2 : Memref sig .tc .vmem S64x32x384 .f32) (harg2 : arg2.IsWhole) (arg3 : Memref sig .tc .vmem S64x2048 .f32)
    (x0 : Vec F S32x2048 .f32) (x1 : Vec F S64x32x384 .f32) :
    kernelRun0_A.sl.r_192 c arg1 harg1 arg2 harg2 arg3 x0 x1
      = addf (shapeCast S64x2048 (kernelRun0_A.sl.v1987 c arg3) shapeCasts_S64x2048_S64x2048)
        (accN (loadW arg2 harg2 x1) (loadX arg1 harg1 x0) 32 le_rfl) := by
  sl_kernel_rfl

/-- The offset of a whole block is zero on both axes. -/
theorem hz2 : (![0, 0] : Fin 2 → Nat) = fun _ => 0 := funext fun a => by fin_cases a <;> rfl

/-- A block of zeros. -/
def zeros : FVec F S64x2048 .f32 := broadcast S64x2048 (Scalar.ofBits .f32 0x00000000#32 : F .f32)

/-- The weights of feature `j` in a block. -/
def slab (x1 : Vec F S64x32x384 .f32) (j : Fin 32) : Vec F S64x1x384 .f32 :=
  View.ld x1 (Rect.unit (s := S64x32x384) ![0, j.val, 0] S64x1x384.size (slab_inb j))

/-- The accumulator after all the features of a grid point, from the point's blocks. -/
def gridAcc (x0 : Vec F S32x2048 .f32) (x1 : Vec F S64x32x384 .f32) : FVec F S64x2048 .f32 := accN (slab x1) x0 32 le_rfl

/-- The load of the inputs reads the whole block. -/
theorem loadX_eq (arg1 : Memref sig .tc .vmem S32x2048 .f32) (harg1 : arg1.IsWhole) (x0 : Vec F S32x2048 .f32) :
    loadX arg1 harg1 x0 = x0 := by
  unfold loadX
  simp only [View.readAt_eq_ld, harg1.read_unread, View.ld_unit_zero (S := S32x2048) hz2]
  exact shapeCast_self x0 _

/-- The load of a feature's weights reads its slab of the block. -/
theorem loadW_eq (arg2 : Memref sig .tc .vmem S64x32x384 .f32) (harg2 : arg2.IsWhole) (x1 : Vec F S64x32x384 .f32) :
    loadW arg2 harg2 x1 = slab x1 := by
  funext j
  unfold loadW slab
  simp only [View.readAt_eq_ld, harg2.read_unread]

/-- At a point that adds to the block already there, the body leaves that block plus the point's accumulator. -/
theorem out_B (c : Dev nD) (i : grid0.Coords) (arg1 : Memref sig .tc .vmem S32x2048 .f32) (harg1 : arg1.IsWhole)
    (arg2 : Memref sig .tc .vmem S64x32x384 .f32) (harg2 : arg2.IsWhole) (arg3 : Memref sig .tc .vmem S64x2048 .f32)
    (harg3 : arg3.IsWhole) (hc : ¬cond0_0 i) (x0 : Vec F S32x2048 .f32) (x1 : Vec F S64x32x384 .f32) (xo : Vec F S64x2048 .f32) :
    out0_B_2 c i arg1 harg1 arg2 harg2 arg3 harg3 hc x0 x1 xo = addf xo (gridAcc x0 x1) := by
  unfold out0_B_2
  rw [View.read_writes_eq_canon _ _ _ (cover0_B_2 c i arg1 harg1 arg2 harg2 arg3 harg3 hc x0 x1 xo)]
  unfold kernelRun0_B
  dsimp only
  rw [View.canon_unit_zero (S := S64x2048) hz2, stored_B, loadX_eq, loadW_eq]
  simp only [View.readAt_eq_ld, harg3.read_unread, View.ld_unit_zero (S := S64x2048) hz2]
  exact congrArg (addf · (gridAcc x0 x1)) (shapeCast_self xo _)

/-- At the point that starts the block, the body leaves zeros plus the point's accumulator. -/
theorem out_A (c : Dev nD) (i : grid0.Coords) (arg1 : Memref sig .tc .vmem S32x2048 .f32) (harg1 : arg1.IsWhole)
    (arg2 : Memref sig .tc .vmem S64x32x384 .f32) (harg2 : arg2.IsWhole) (arg3 : Memref sig .tc .vmem S64x2048 .f32)
    (harg3 : arg3.IsWhole) (hc : cond0_0 i) (x0 : Vec F S32x2048 .f32) (x1 : Vec F S64x32x384 .f32) :
    out0_A_2 c i arg1 harg1 arg2 harg2 arg3 harg3 hc x0 x1 = addf zeros (gridAcc x0 x1) := by
  unfold out0_A_2
  rw [View.read_writes_eq_canon _ _ _ (cover0_A_2 c i arg1 harg1 arg2 harg2 arg3 harg3 hc x0 x1)]
  unfold kernelRun0_A
  dsimp only
  rw [View.canon_cons_unit_zero (S := S64x2048) hz2, stored_A, loadX_eq, loadW_eq]
  unfold kernelRun0_A.sl.v1987 kernelRun0_A.sl.H2_1
  rw [View.readCov_unit_zero (S := S64x2048) _ hz2]
  exact congrArg (addf · (gridAcc x0 x1)) (shapeCast_self k0_pay267 _)

end Cert.KernelIdeal.Value

end
-- ==== Proof.Result.lean ====
/- What the result array ends holding, as a function of the two arguments: the sum of the two grid points' accumulators,
   turned over. -/
module

public import proofs.«01_k».proof.Proof.Step
public import Idealize.ShloMosaic.Lib.Pipeline.Value
public import Idealize.ShloMosaic.Lib.Claim
public import Idealize.ShloMosaic.Lib.Pipeline.ValueKit
public import Idealize.ShloMosaic.Lib.ValueIdx

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The accumulated block: zeros, plus the first point's accumulator, plus the second's. -/
def accumulated (c : Dev nD) : FVec F S64x2048 .f32 :=
  addf (addf zeros (gridAcc (iblk m c 0 t0_0) (iblk m c 1 t0_0))) (gridAcc (iblk m c 0 t0_1) (iblk m c 1 t0_1))

/-- After the second point the staged block holds the accumulated block. -/
theorem outsAt_last (c : Dev nD) : outsAt0 m c t0_1.val t0_1.isLt = accumulated m c := by
  rw [outsAt0_B m c t0_1 (by decide), out_B]
  have h0 : outsAt0 m c (t0_1.val - 1) (Nat.lt_of_le_of_lt (Nat.sub_le _ _) t0_1.isLt)
      = addf zeros (gridAcc (iblk m c 0 t0_0) (iblk m c 1 t0_0)) := (outsAt0_A m c t0_0 rfl).trans (out_A ..)
  rw [h0]
  rfl

/-- The array the region writes ends holding the accumulated block. -/
theorem final_acc (c : Dev nD) : (dats m 0 c).arrAt 2 cfg0.N = accumulated m c := by
  refine (dats m 0 c).arrAt_eq_of_after_last 2 t0_1 (by decide +kernel) _ fun j => ?_
  blk_simp
  rw [after0_2, outsAt_last]

/-- The result of the whole program: the accumulated block turned over. -/
def result (c : Dev nD) : FVec F S2048x64 .f32 := transpose S2048x64 [1, 0] (accumulated m c) transposes_S64x2048_S2048x64_1_0

/-- What the host code after the region leaves in the result array. -/
theorem tail_result (c : Dev nD) :
    Pipeline.afterTail₀ cfgs (dats m) 0 (V0 m) [hostOps1] c main_v0 = result m c := by
  unfold Pipeline.afterTail₀ result
  rw [← final_acc m c]
  simp only [List.flatten_cons, List.flatten_nil, List.append_nil, hostOps1]
  after_results_simp
  exact congrArg (transpose S2048x64 [1, 0] · transposes_S64x2048_S2048x64_1_0)
    (Pipeline.withArrays_arr spec0 launch0.win.arr_inj c (V0 m c) (fun w => (dats m 0 c).arrAt w cfg0.N) 2)

/-- The program runs, and ends with the result array at `result` and the arguments unchanged. -/
theorem run : θ_run defs (onTc (τ := τ) (main (F := F))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h.1 c).2 main_v0 (Pipeline.mem_restRefs_of main_v0 (by decide) (by decide))).trans (tail_result m c), (h.2 c).1, (h.2 c).2⟩)
    (θ_run_and (run_main m ρ) (unchanged m ρ))

end Cert.KernelIdeal.Value

end
-- ==== Proof.Reals.lean ====
/- The mathematics of one input, over the extended reals and with no program in it: the segment an input lies in, its
   local coordinate there, the three basis polynomials, and each of them as the kernel and as the reference spell it. -/
module

public import Idealize.ShloMosaic.PureOps.Ideal
public import Idealize.ShloMosaic.Lib.IdealHost

@[expose] public section

noncomputable section

namespace Cert.Spline

open Idealize.ShloMosaic

/-! ## The constants -/

/-- The float word of 64. -/
theorem c64 : Ideal.ofBits .f32 0x42800000#32 = ((64 : ℝ) : EReal) := by
  simp [Ideal.ofBits, Ideal.ieee, -EReal.coe_mul]; norm_num
/-- The float word of 127. -/
theorem c127 : Ideal.ofBits .f32 0x42FE0000#32 = ((127 : ℝ) : EReal) := by
  simp [Ideal.ofBits, Ideal.ieee, -EReal.coe_mul]; norm_num
/-- The float word of 128. -/
theorem c128 : Ideal.ofBits .f32 0x43000000#32 = ((128 : ℝ) : EReal) := by
  simp [Ideal.ofBits, Ideal.ieee, -EReal.coe_mul]; norm_num
/-- The float word of 1/64. -/
theorem cInv64 : Ideal.ofBits .f32 0x3C800000#32 = ((1 / 64 : ℝ) : EReal) := by
  simp [Ideal.ofBits, Ideal.ieee, -EReal.coe_mul]; norm_num
/-- The float word of 1/2. -/
theorem cHalf : Ideal.ofBits .f32 0x3F000000#32 = ((1 / 2 : ℝ) : EReal) := by
  simp [Ideal.ofBits, Ideal.ieee, -EReal.coe_mul]; norm_num
/-- The float word of 2. -/
theorem c2 : Ideal.ofBits .f32 0x40000000#32 = ((2 : ℝ) : EReal) := by
  simp [Ideal.ofBits, Ideal.ieee, -EReal.coe_mul]; norm_num
/-- The float word of 3. -/
theorem c3 : Ideal.ofBits .f32 0x40400000#32 = ((3 : ℝ) : EReal) := by
  simp [Ideal.ofBits, Ideal.ieee, -EReal.coe_mul]; norm_num
/-- The float word of -1. -/
theorem cNeg1 : Ideal.ofBits .f32 0xBF800000#32 = ((-1 : ℝ) : EReal) := by
  simp [Ideal.ofBits, Ideal.ieee, -EReal.coe_mul]; norm_num
/-- The float word of -2. -/
theorem cNeg2 : Ideal.ofBits .f32 0xC0000000#32 = ((-2 : ℝ) : EReal) := by
  simp [Ideal.ofBits, Ideal.ieee, -EReal.coe_mul]; norm_num
/-- The extended real one is the real one. -/
theorem one_real : (1 : EReal) = ((1 : ℝ) : EReal) := rfl

/-! ## The segment -/

/-- The float of the word of a small natural number is that number. -/
theorem word_float (φ : FTy) (n : ℕ) (h : n < 2 ^ 31) : (FloatOps.sitofp φ (BitVec.ofNat 32 n) : Ideal φ) = ((n : ℝ) : EReal) := by
  have e : (BitVec.ofNat 32 n).toInt = n := by
    have hn : (BitVec.ofNat 32 n).toNat = n := by rw [BitVec.toNat_ofNat]; omega
    rw [BitVec.toInt_eq_toNat_of_lt (by omega), hn]
  show (((BitVec.ofNat 32 n).toInt : ℝ) : EReal) = _
  rw [e]
  norm_cast

/-- The segment index of an input as an integer: the integer part of `(x + 1) * 64`, clipped to `[0, 127]`. -/
def segZ (x : EReal) : ℤ :=
  max 0 (min 127 (Ideal.toIntClamped (-(2 ^ (32 - 1) : ℕ)) ((2 ^ (32 - 1) : ℕ) - 1) ((x + 1) * ((64 : ℝ) : EReal))))

/-- It lies in `[0, 127]`. -/
theorem segZ_bounds (x : EReal) : 0 ≤ segZ x ∧ segZ x ≤ 127 := by unfold segZ; omega

/-- The segment an input lies in, of 128. -/
def seg (x : EReal) : Fin 128 := ⟨(segZ x).toNat, by have := segZ_bounds x; omega⟩

/-- The segment, read as an integer, is the segment index. -/
theorem seg_int (x : EReal) : (((seg x).val : ℕ) : ℤ) = segZ x := Int.toNat_of_nonneg (segZ_bounds x).1

/-- The kernel's spelling: the floor, clipped as a float. -/
theorem seg_kernel (x : EReal) :
    min ((127 : ℝ) : EReal) (max 0 (Ideal.liftRound Int.floor ((x + 1) * ((64 : ℝ) : EReal)))) = (((seg x).val : ℝ) : EReal) := by
  have h : (((seg x).val : ℕ) : ℝ) = ((segZ x : ℤ) : ℝ) := by rw [← seg_int]; norm_cast
  rw [h]
  unfold segZ
  generalize (x + 1) * ((64 : ℝ) : EReal) = y
  induction y using EReal.rec with
  | bot => simp [Ideal.liftRound_bot, Ideal.toIntClamped_bot]
  | top => simp [Ideal.liftRound_top, Ideal.toIntClamped_top]
  | coe r =>
    rw [Ideal.liftRound_coe, Ideal.toIntClamped_coe]
    have e : max (0 : ℤ) (min 127 (max (-(2 ^ (32 - 1) : ℕ)) (min ((2 ^ (32 - 1) : ℕ) - 1) (if 0 ≤ r then ⌊r⌋ else ⌈r⌉))))
        = min 127 (max 0 ⌊r⌋) := by
      split
      · omega
      · rename_i hr
        have h1 : ⌊r⌋ ≤ 0 := Int.floor_nonpos (le_of_lt (not_le.mp hr))
        have h2 : ⌈r⌉ ≤ 0 := Int.ceil_le.mpr (by push_cast; exact le_of_lt (not_le.mp hr))
        omega
    rw [e]
    have z : (0 : EReal) = ((0 : ℝ) : EReal) := rfl
    rw [z]
    push_cast
    rw [EReal.coe_strictMono.monotone.map_min, EReal.coe_strictMono.monotone.map_max]
    rfl

/-- A conversion to a 32-bit integer lands in the integers of 32 bits. -/
theorem clamped_bounds (y : EReal) :
    -(2 ^ (32 - 1) : ℕ) ≤ Ideal.toIntClamped (-(2 ^ (32 - 1) : ℕ)) ((2 ^ (32 - 1) : ℕ) - 1) y
      ∧ Ideal.toIntClamped (-(2 ^ (32 - 1) : ℕ)) ((2 ^ (32 - 1) : ℕ) - 1) y ≤ (2 ^ (32 - 1) : ℕ) - 1 := by
  induction y using EReal.rec with
  | bot => rw [Ideal.toIntClamped_bot]; omega
  | top => rw [Ideal.toIntClamped_top]; omega
  | coe r => rw [Ideal.toIntClamped_coe]; split <;> omega

/-- Clipping a word to `[0, 127]` clips the integer it holds. -/
theorem clip_word (z : ℤ) (h : -(2 ^ (32 - 1) : ℕ) ≤ z ∧ z ≤ (2 ^ (32 - 1) : ℕ) - 1) :
    Scalar.maxsi (Scalar.minsi (BitVec.ofInt 32 z) 127#32) 0#32 = BitVec.ofNat 32 (max 0 (min 127 z)).toNat := by
  have hz : (BitVec.ofInt 32 z).toInt = z := by
    rw [BitVec.toInt_ofInt]; exact Int.bmod_eq_of_le (by omega) (by omega)
  have h127 : (127#32).toInt = 127 := by decide
  have h0 : (0#32).toInt = 0 := by decide
  apply BitVec.eq_of_toInt_eq
  have hr : (BitVec.ofNat 32 (max 0 (min 127 z)).toNat).toInt = max 0 (min 127 z) := by
    have hn : (BitVec.ofNat 32 (max 0 (min 127 z)).toNat).toNat = (max 0 (min 127 z)).toNat := by
      rw [BitVec.toNat_ofNat]; omega
    rw [BitVec.toInt_eq_toNat_of_lt (by omega), hn]; omega
  rw [hr]
  simp only [Scalar.maxsi, Scalar.minsi, IntOp.maxsi, IntOp.minsi, BitVec.slt, BitVec.sle, hz, h127, h0]
  repeat' split
  all_goals simp_all
  all_goals omega

/-- The reference's spelling: the conversion to an integer word, clipped as an integer. -/
theorem seg_reference (x : EReal) :
    Scalar.maxsi (Scalar.minsi (Ideal.fptosi 32 (Ideal.div (x + 1) ((2 : ℝ) : EReal) * ((128 : ℝ) : EReal))) 127#32) 0#32
      = BitVec.ofNat 32 (seg x).val := by
  have e : Ideal.div (x + 1) ((2 : ℝ) : EReal) * ((128 : ℝ) : EReal) = (x + 1) * ((64 : ℝ) : EReal) := by
    rw [Ideal.div_coe (by norm_num), mul_assoc, ← EReal.coe_mul]; norm_num
  rw [e]
  exact clip_word _ (clamped_bounds _)

/-! ## The local coordinate -/

/-- The local coordinate of an input in its segment: from -1 to 1 across it. -/
def loc (x : EReal) : EReal :=
  (x - (((seg x).val : ℝ) * ((1 / 64 : ℝ) : EReal) - 1)) * ((128 : ℝ) : EReal) - 1

/-- The reference's spelling, from the two ends of the segment. -/
theorem loc_reference (x : EReal) (s : ℝ) :
    ((2 : ℝ) : EReal) * Ideal.div (x - (Ideal.div (s : EReal) ((128 : ℝ) : EReal) * ((2 : ℝ) : EReal) - 1))
        ((Ideal.div ((s + 1 : ℝ) : EReal) ((128 : ℝ) : EReal) * ((2 : ℝ) : EReal) - 1)
          - (Ideal.div (s : EReal) ((128 : ℝ) : EReal) * ((2 : ℝ) : EReal) - 1)) - 1
      = (x - ((s : EReal) * ((1 / 64 : ℝ) : EReal) - 1)) * ((128 : ℝ) : EReal) - 1 := by
  have e (t : ℝ) : Ideal.div (t : EReal) ((128 : ℝ) : EReal) * ((2 : ℝ) : EReal) - 1 = ((t / 64 - 1 : ℝ) : EReal) := by
    rw [Ideal.div_coe (by norm_num), one_real]
    norm_cast
    ring_nf
  have k : (s : EReal) * ((1 / 64 : ℝ) : EReal) - 1 = ((s / 64 - 1 : ℝ) : EReal) := by
    rw [one_real]; norm_cast; ring_nf
  have d : ((s + 1) / 64 - 1 : ℝ) - (s / 64 - 1) = 1 / 64 := by ring
  rw [e, e, k, ← EReal.coe_sub, d, Ideal.div_coe (by norm_num), mul_comm ((2 : ℝ) : EReal), mul_assoc, ← EReal.coe_mul]
  norm_num

/-! ## The basis polynomials -/

/-- The three quadratic Lagrange polynomials of the nodes -1, 0, 1. -/
def poly (p : Fin 3) (u : EReal) : EReal :=
  match p with
  | 0 => ((1 / 2 : ℝ) : EReal) * u * (u - 1)
  | 1 => 1 - u * u
  | 2 => ((1 / 2 : ℝ) : EReal) * u * (u + 1)

/-- The reference's product for the node -1. -/
theorem poly_reference0 (u : EReal) :
    Ideal.div (Ideal.div (1 * (u - 0)) ((-1 : ℝ) : EReal) * (u - 1)) ((-2 : ℝ) : EReal) = poly 0 u := by
  rw [Ideal.div_coe (by norm_num), Ideal.div_coe (by norm_num)]
  show _ = ((1 / 2 : ℝ) : EReal) * u * (u - 1)
  have e : ((1 / -1 : ℝ) : EReal) = ((-1 : ℝ) : EReal) := by norm_num
  rw [one_mul, sub_zero, mul_right_comm _ (u - 1), mul_assoc u, ← EReal.coe_mul, mul_comm u]
  norm_num

/-- Taking -1 away is adding 1. -/
theorem sub_neg_one (u : EReal) : u - ((-1 : ℝ) : EReal) = u + ((1 : ℝ) : EReal) := by
  rw [sub_eq_add_neg]; norm_num

/-- The reference's product for the node 0. -/
theorem poly_reference1 (u : EReal) :
    Ideal.div (Ideal.div (1 * (u - ((-1 : ℝ) : EReal))) 1 * (u - 1)) ((-1 : ℝ) : EReal) = poly 1 u := by
  have f : ((1 / 1 : ℝ) : EReal) = 1 := by norm_num
  have g : ((1 / -1 : ℝ) : EReal) = ((-1 : ℝ) : EReal) := by norm_num
  rw [one_mul, sub_neg_one, one_real, Ideal.div_coe (by norm_num), Ideal.div_coe (by norm_num), f, mul_one, g]
  show _ = (1 : EReal) - u * u
  rw [one_real]
  induction u using EReal.rec with
  | bot => simp
  | top => rw [EReal.top_add_coe, EReal.top_sub_coe, EReal.top_mul_top, EReal.top_mul_coe_of_neg (by norm_num)]; rfl
  | coe r =>
    simp only [← EReal.coe_add, ← EReal.coe_sub, ← EReal.coe_mul]
    congr 1
    ring

/-- The reference's product for the node 1. -/
theorem poly_reference2 (u : EReal) :
    Ideal.div (Ideal.div (1 * (u - ((-1 : ℝ) : EReal))) ((2 : ℝ) : EReal) * (u - 0)) 1 = poly 2 u := by
  have f : ((1 / 1 : ℝ) : EReal) = 1 := by norm_num
  rw [one_mul, sub_neg_one, one_real, Ideal.div_coe (by norm_num), Ideal.div_coe (by norm_num), f, mul_one, sub_zero]
  show _ = ((1 / 2 : ℝ) : EReal) * u * (u + 1)
  rw [one_real, mul_assoc, mul_comm]

end Cert.Spline

end
-- ==== Proof.Cell.lean ====
/- What one feature adds to one cell of the accumulator, over the extended reals: the three basis polynomials at the
   input's local coordinate, each times the weight of the input's segment. The selection matrices and the one-hot matrix
   have one entry 1 in each row or column, so each of the kernel's products reads one weight. -/
module

public import proofs.«01_k».proof.Proof.Step
public import proofs.«01_k».proof.Proof.Reals
public import Idealize.ShloMosaic.Lib.Pointwise

@[expose] public section

set_option maxRecDepth 16384

noncomputable section

namespace Cert.KernelIdeal.Value

open Cert.KernelIdeal Cert.KernelIdeal.Gen Cert.Spline Idealize.ShloMosaic Idealize.ShloMosaic.Pointwise

/-! ## The segment and the local coordinate -/

/-- The segment row holds the segment of each input. -/
theorem segRow_at (x : FVec Ideal S1x2048 .f32) (b : Fin 2048) :
    segRow x (ix2 0 b) = (((seg (x (ix2 0 b))).val : ℝ) : EReal) := by
  pointwise [segRow, flatRow]
  rw [c64, c127]
  exact seg_kernel _

/-- The row of local coordinates holds the local coordinate of each input. -/
theorem locRow_at (x : FVec Ideal S1x2048 .f32) (b : Fin 2048) : locRow x (ix2 0 b) = loc (x (ix2 0 b)) := by
  pointwise [locRow, flatRow]
  rw [segRow_at, cInv64, c128]
  rfl

/-- The basis polynomial of node `p`, of the three. -/
def basisRow (p : Fin 3) (u : FVec Ideal S1x2048 .f32) : FVec Ideal S1x2048 .f32 :=
  match p with
  | 0 => basis0 u
  | 1 => basis1 u
  | 2 => basis2 u

/-- The row of node `p` holds its polynomial at each local coordinate. -/
theorem basisRow_at (p : Fin 3) (u : FVec Ideal S1x2048 .f32) (b : Fin 2048) :
    basisRow p u (ix2 0 b) = poly p (u (ix2 0 b)) := by
  fin_cases p
  · show basis0 u (ix2 0 b) = _
    pointwise [basis0, flatRow]
    rw [cHalf]; rfl
  · show basis1 u (ix2 0 b) = _
    pointwise [basis1, flatRow]
    rfl
  · show basis2 u (ix2 0 b) = _
    pointwise [basis2, flatRow]
    rw [cHalf]; rfl

/-! ## The one-hot matrix -/

/-- The one-hot matrix holds 1 where the row is the segment of the column's input, and 0 elsewhere. -/
theorem hot_at (x : FVec Ideal S1x2048 .f32) (k : Fin 128) (b : Fin 2048) :
    hotOf (segRow x) (ix2 k b) = if k = seg (x (ix2 0 b)) then 1 else 0 := by
  pointwise [hotOf, flatRow, k0_pay2]
  rw [segRow_at, word_float _ _ (by omega)]
  refine if_congr ?_ rfl rfl
  rw [EReal.coe_eq_coe_iff, Nat.cast_inj, Fin.ext_iff]

/-! ## The weights of each segment -/

/-- The column of segment `s`'s weight for node `p`. -/
def colOf (s : Fin 128) (p : Fin 3) : Fin 384 := ⟨3 * s.val + p.val, by omega⟩

/-- The selection matrix of node `p`, of the three. -/
def selOf (p : Fin 3) : FVec Ideal S384x128 .bf16 :=
  match p with
  | 0 => k0_pay5
  | 1 => k0_pay6
  | 2 => k0_pay7

/-- The selection matrix of node `p` holds 1 in column `k` at row `3 k + p`, and 0 elsewhere. -/
theorem sel_at (p : Fin 3) (m : Fin 384) (k : Fin 128) : selOf p (ix2 m k) = if m = colOf k p then 1 else 0 := by
  have key : ∀ q : ℕ, (((m.val : ℝ) : EReal) = ((k.val : ℝ) : EReal) * ((3 : ℝ) : EReal) + ((q : ℝ) : EReal)) ↔ m.val = 3 * k.val + q := by
    intro q
    rw [← EReal.coe_mul, ← EReal.coe_add, EReal.coe_eq_coe_iff, mul_comm]
    norm_cast
  have k0 := key 0
  have k1 := key 1
  have k2 := key 2
  push_cast at k0 k1 k2
  rw [add_zero] at k0
  fin_cases p
  · show (k0_pay5 : FVec Ideal S384x128 .bf16) (ix2 m k) = _
    pointwise [k0_pay3, k0_pay4, k0_pay5]
    rw [word_float _ _ (by omega), word_float _ _ (by omega), c3]
    refine if_congr ?_ rfl rfl
    rw [Fin.ext_iff]; exact k0
  · show (k0_pay6 : FVec Ideal S384x128 .bf16) (ix2 m k) = _
    pointwise [k0_pay3, k0_pay4, k0_pay6]
    rw [word_float _ _ (by omega), word_float _ _ (by omega), c3]
    refine if_congr ?_ rfl rfl
    rw [Fin.ext_iff]; exact k1
  · show (k0_pay7 : FVec Ideal S384x128 .bf16) (ix2 m k) = _
    pointwise [k0_pay3, k0_pay4, k0_pay7]
    rw [word_float _ _ (by omega), word_float _ _ (by omega), c3, c2]
    refine if_congr ?_ rfl rfl
    rw [Fin.ext_iff]; exact k2

/-- A selection reads the weight of its node. -/
theorem picked_at (w : FVec Ideal S64x384 .bf16) (p : Fin 3) (o : Fin 64) (k : Fin 128) :
    picked w (selOf p) (ix2 o k) = w (ix2 o (colOf k p)) := by
  pointwise [picked]
  rw [Finset.sum_eq_single (colOf k p)]
  · rw [sel_at, if_pos rfl, mul_one]
  · intro m _ h
    rw [sel_at, if_neg h, mul_zero]
  · exact fun h => absurd (Finset.mem_univ _) h

/-- Row `64 p + o` of the stacked weights: output `o`'s weights for node `p`. -/
def stackRow (p : Fin 3) (o : Fin 64) : Fin 192 := ⟨64 * p.val + o.val, by omega⟩

/-- The stacked weights at a node's row of an output: the output's weights for that node. -/
theorem stacked_at (w : Vec Ideal S64x1x384 .f32) (p : Fin 3) (o : Fin 64) (k : Fin 128) :
    stacked w (ix2 (stackRow p o) k) = w (ix3 o 0 (colOf k p)) := by
  have h0 := picked_at (truncf .bf16 (shapeCast S64x384 w shapeCasts_S64x1x384_S64x384) bitsLt_bf16_f32) p o k
  have h1 : truncf (F := Ideal) .bf16 (shapeCast S64x384 w shapeCasts_S64x1x384_S64x384) bitsLt_bf16_f32 (ix2 o (colOf k p))
      = w (ix3 o 0 (colOf k p)) := by
    pointwise
  rw [← h1, ← h0]
  have ho := o.isLt
  fin_cases p
  · pointwise [stacked, stackRow]
    rfl
  · pointwise [stacked, stackRow]
    rfl
  · pointwise [stacked, stackRow]
    rw [dif_neg (by omega), dif_neg (by omega)]
    have e : (⟨128 + o.val - 64 - 64, by omega⟩ : Fin 64) = o := Fin.ext (by show 128 + o.val - 64 - 64 = o.val; omega)
    rw [e]
    rfl

/-- The stacked weights times the one-hot matrix: the weights of each token's segment. -/
theorem gathered_at (w : Vec Ideal S64x1x384 .f32) (x : FVec Ideal S1x2048 .f32) (p : Fin 3) (o : Fin 64) (b : Fin 2048) :
    gathered w x (ix2 (stackRow p o) b) = w (ix3 o 0 (colOf (seg (x (ix2 0 b))) p)) := by
  pointwise [gathered]
  rw [Finset.sum_eq_single (seg (x (ix2 0 b)))]
  · rw [hot_at, if_pos rfl, mul_one, stacked_at]
  · intro k _ h
    rw [hot_at, if_neg h, mul_zero]
  · exact fun h => absurd (Finset.mem_univ _) h

/-! ## One feature, and all of them -/

/-- What a feature with input `x` and weights `v` (by column) adds: the spline's value at `x`. -/
def spline (x : EReal) (v : Fin 384 → EReal) : EReal := ∑ p : Fin 3, poly p (loc x) * v (colOf (seg x) p)

/-- One feature adds its spline to the cell. -/
theorem step_at (w : Vec Ideal S64x1x384 .f32) (x : FVec Ideal S1x2048 .f32) (a : FVec Ideal S64x2048 .f32) (o : Fin 64) (b : Fin 2048) :
    step w x a (ix2 o b) = a (ix2 o b) + spline (x (ix2 0 b)) (fun m => w (ix3 o 0 m)) := by
  have g (p : Fin 3) := gathered_at w x p o b
  have h (p : Fin 3) := (basisRow_at p (locRow x) b).trans (congrArg (poly p) (locRow_at x b))
  rw [spline, Fin.sum_univ_three, ← g 0, ← g 1, ← g 2, ← h 0, ← h 1, ← h 2]
  pointwise [step, stackRow, basisRow]

/-- A row of a block of inputs is the inputs of one feature. -/
theorem rowOf_at (xb : FVec Ideal S32x2048 .f32) (j : Fin 32) (b : Fin 2048) : rowOf xb j (ix2 0 b) = xb (ix2 j b) := by
  pointwise [rowOf]

/-- A slab of a block of weights is the weights of one feature. -/
theorem slab_at (x1 : Vec Ideal S64x32x384 .f32) (j : Fin 32) (o : Fin 64) (m : Fin 384) :
    slab x1 j (ix3 o 0 m) = x1 (ix3 o j m) := by
  pointwise [slab]

/-- The accumulator after `n` features: the sum of their splines. -/
theorem accN_at (W : Fin 32 → Vec Ideal S64x1x384 .f32) (xb : FVec Ideal S32x2048 .f32) (o : Fin 64) (b : Fin 2048) :
    ∀ (n : ℕ) (h : n ≤ 32), accN W xb n h (ix2 o b)
      = ∑ j : Fin n, spline (xb (ix2 (j.castLE h) b)) (fun m => W (j.castLE h) (ix3 o 0 m))
  | 0, _ => by
    pointwise [accN]
    simp
  | n + 1, h => by
    rw [accN, step_at, accN_at W xb o b n (Nat.le_of_succ_le h), rowOf_at, Fin.sum_univ_castSucc]
    rfl

/-- The accumulator of a grid point at a cell: the sum of the splines of the point's 32 features. -/
theorem gridAcc_at (x0 : FVec Ideal S32x2048 .f32) (x1 : Vec Ideal S64x32x384 .f32) (o : Fin 64) (b : Fin 2048) :
    gridAcc x0 x1 (ix2 o b) = ∑ j : Fin 32, spline (x0 (ix2 j b)) (fun m => x1 (ix3 o j m)) := by
  unfold gridAcc
  rw [accN_at]
  refine Finset.sum_congr rfl fun j _ => ?_
  have e (m : Fin 384) := slab_at x1 j o m
  exact congrArg (spline (x0 (ix2 j b))) (funext e)

end Cert.KernelIdeal.Value

end
-- ==== Proof.Total.lean ====
/- The kernel's result at one cell, over the extended reals: the sum of the splines of all 64 features, each at its own
   input and with its own weights. -/
module

public import proofs.«01_k».proof.Proof.Result
public import proofs.«01_k».proof.Proof.Cell

@[expose] public section

set_option maxRecDepth 16384

noncomputable section

namespace Cert.KernelIdeal.Value

open Cert.KernelIdeal Cert.KernelIdeal.Gen Cert.Spline Idealize.ShloMosaic Idealize.ShloMosaic.TcCoe Idealize.SL.Sem
open Idealize.ShloMosaic.Pointwise

variable (m : (ℓ : Loc nD τ sig) → Buf (Elt Ideal) ℓ) (c : Dev nD)

/-- The inputs the program starts with. -/
def inX : FVec Ideal S2048x64 .f32 := m ((c.tc : Thread nD τ).loc main_arg0)
/-- The weights the program starts with. -/
def inW : FVec Ideal S64x64x384 .f32 := m ((c.tc : Thread nD τ).loc main_arg1)

/-- Feature `j` of grid point `t`. -/
def featOf (t : Fin 2) (j : Fin 32) : Fin 64 := ⟨32 * t.val + j.val, by omega⟩

/-- The region's first array: the inputs turned over. -/
theorem entryX : V m c main_call0_v0 = transpose S64x2048 [1, 0] (inX m c) transposes_S2048x64_S64x2048_1_0 := by
  entry_read
  rfl

/-- The blocks of a grid point lie side by side along the features. -/
theorem indexX (t : Fin cfg0.N) : win0_0.index t = ![t.val, 0] := by revert t; decide +kernel
/-- The same of the blocks of weights. -/
theorem indexW (t : Fin cfg0.N) : win0_1.index t = ![0, t.val, 0] := by revert t; decide +kernel

/-- The block of inputs of a grid point: its 32 features, one per row. -/
theorem blockX (t : Fin cfg0.N) (j : Fin 32) (b : Fin 2048) :
    (iblk m c 0 t : FVec Ideal S32x2048 .f32) (ix2 j b) = inX m c (ix2 b (featOf t j)) := by
  have e : ((cfg0.win 0).blk t).view.emb (ix2 j b) = ix2 (featOf t j) b := by
    funext a
    refine Fin.ext ?_
    match a with
    | ⟨0, _⟩ => blk_simp [indexX]; show t.val * 32 + j.val = 32 * t.val + j.val; omega
    | ⟨1, _⟩ => blk_simp [indexX]
  show V m c main_call0_v0 (((cfg0.win 0).blk t).view.emb (ix2 j b)) = _
  rw [e, entryX]
  pointwise

/-- The block of weights of a grid point: its 32 features, along the second axis. -/
theorem blockW (t : Fin cfg0.N) (o : Fin 64) (j : Fin 32) (k : Fin 384) :
    (iblk m c 1 t : FVec Ideal S64x32x384 .f32) (ix3 o j k) = inW m c (ix3 o (featOf t j) k) := by
  have e : ((cfg0.win 1).blk t).view.emb (ix3 o j k) = ix3 o (featOf t j) k := by
    funext a
    refine Fin.ext ?_
    match a with
    | ⟨0, _⟩ => blk_simp [indexW]
    | ⟨1, _⟩ => blk_simp [indexW]; show t.val * 32 + j.val = 32 * t.val + j.val; omega
    | ⟨2, _⟩ => blk_simp [indexW]
  show V m c main_arg1 (((cfg0.win 1).blk t).view.emb (ix3 o j k)) = _
  rw [e, V_main_arg1]
  rfl

/-- The 64 features are the two grid points' 32 each. -/
theorem sum_features (f : Fin 64 → EReal) : ∑ k : Fin 64, f k = ∑ j : Fin 32, f (featOf 0 j) + ∑ j : Fin 32, f (featOf 1 j) :=
  (Fin.sum_univ_add (a := 32) (b := 32) f).trans (congrArg₂ (· + ·)
    (Finset.sum_congr rfl fun j _ => congrArg f (Fin.ext (by show j.val = 32 * 0 + j.val; omega)))
    (Finset.sum_congr rfl fun j _ => congrArg f (Fin.ext (by show 32 + j.val = 32 * 1 + j.val; omega))))

/-- The kernel's result at token `b` and output `o`. -/
theorem result_at (b : Fin 2048) (o : Fin 64) :
    (result m c : FVec Ideal S2048x64 .f32) (ix2 b o)
      = ∑ k : Fin 64, spline (inX m c (ix2 b k)) (fun n => inW m c (ix3 o k n)) := by
  have g (t : Fin cfg0.N) : gridAcc (iblk m c 0 t) (iblk m c 1 t) (ix2 o b)
      = ∑ j : Fin 32, spline (inX m c (ix2 b (featOf t j))) (fun n => inW m c (ix3 o (featOf t j) n)) :=
    (gridAcc_at _ _ o b).trans (Finset.sum_congr rfl fun j _ =>
      congrArg₂ spline (blockX m c t j b) (funext fun n => blockW m c t o j n))
  rw [sum_features]
  have h : (result m c : FVec Ideal S2048x64 .f32) (ix2 b o)
      = (0 + gridAcc (iblk m c 0 t0_0) (iblk m c 1 t0_0) (ix2 o b)) + gridAcc (iblk m c 0 t0_1) (iblk m c 1 t0_1) (ix2 o b) := by
    pointwise [result, accumulated, zeros]
  rw [h, g, g, zero_add]
  rfl

end Cert.KernelIdeal.Value

end
-- ==== Proof.RefSpec.lean ====
/- The reference's result in stages: the segment of each input, its local coordinate, the three basis polynomials, the
   index vectors of the gather of the weights, and the contraction. -/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable {F : FTy → Type} [FloatOps F]

/-! ## Constant arrays -/

/-- An array of one float, by its word. -/
def fill (w : BitVec 32) : FVec F S2048x64 .f32 := broadcastInDim S2048x64 ![] bcast_S_S2048x64 (constant S_ .f32 w)
/-- An array of one word, over the inputs. -/
def fillI (w : BitVec 32) : IVec S2048x64 32 := broadcastInDim S2048x64 ![] bcast_S_S2048x64 (constantI S_ 32 w)
/-- An array that repeats one scalar, over the rows of the gather. -/
def rep {n : ℕ} (s : IVec S_ n) : IVec S393216 n := broadcastInDim S393216 ![] bcast_S_S393216 s

/-! ## Of each input -/

/-- The segment of each input, a word. -/
def ids (x : FVec F S2048x64 .f32) : IVec S2048x64 32 :=
  maxsi (minsi (fptosi 32 (mulf (Host.divf (addf x (fill 0x3F800000#32)) (fill 0x40000000#32)) (fill 0x43000000#32)))
    (fillI 127#32)) (fillI 0#32)

/-- The place of the segment boundary of index `i`. -/
def boundary (i : IVec S2048x64 32) : FVec F S2048x64 .f32 :=
  subf (mulf (Host.divf (sitofp .f32 i) (fill 0x43000000#32)) (fill 0x40000000#32)) (fill 0x3F800000#32)

/-- The local coordinate of each input. -/
def coords (x : FVec F S2048x64 .f32) : FVec F S2048x64 .f32 :=
  subf (mulf (fill 0x40000000#32) (Host.divf (subf x (boundary (ids x)))
    (subf (boundary (addi (ids x) (fillI 1#32))) (boundary (ids x))))) (fill 0x3F800000#32)

/-- A Lagrange polynomial: the product over the two other nodes `a`, `b` of `(u - node) / (difference of the nodes)`. -/
def lagrange (a da b db : BitVec 32) (u : FVec F S2048x64 .f32) : FVec F S2048x64 .f32 :=
  Host.divf (mulf (Host.divf (mulf (fill 0x3F800000#32) (subf u (fill a))) (fill da)) (subf u (fill b))) (fill db)

/-- The three polynomials, stacked. -/
def bases (u : FVec F S2048x64 .f32) : FVec F S3x2048x64 .f32 :=
  concatenate S3x2048x64 0
    [⟨S1x2048x64, broadcastInDim S1x2048x64 ![1, 2] bcast_S2048x64_S1x2048x64_1_2
        (lagrange 0x00000000#32 0xBF800000#32 0x3F800000#32 0xC0000000#32 u)⟩,
     ⟨S1x2048x64, broadcastInDim S1x2048x64 ![1, 2] bcast_S2048x64_S1x2048x64_1_2
        (lagrange 0xBF800000#32 0x3F800000#32 0x3F800000#32 0xBF800000#32 u)⟩,
     ⟨S1x2048x64, broadcastInDim S1x2048x64 ![1, 2] bcast_S2048x64_S1x2048x64_1_2
        (lagrange 0xBF800000#32 0x40000000#32 0x00000000#32 0x3F800000#32 u)⟩]
    concatenates_S1x2048x64_S1x2048x64_S1x2048x64_S3x2048x64_d0

/-! ## The rows of the gather: one for each token, feature and node -/

/-- The number of each row. -/
def rowNo : IVec S393216 32 := iotaInDim S393216 32 0

/-- Each row's number divided by 3, rounded down. -/
def pairNo : IVec S393216 32 :=
  select (andi (cmpi .ne (signi rowNo) (rep (signi (id (constantI S_ 32 3#32)))))
      (cmpi .ne (Host.remsi rowNo (rep (id (constantI S_ 32 3#32)))) (rep (constantI S_ 32 0#32))))
    (subi (Host.divsi rowNo (rep (id (constantI S_ 32 3#32)))) (rep (constantI S_ 32 1#32)))
    (Host.divsi rowNo (rep (id (constantI S_ 32 3#32))))

/-- The divisor 64, guarded against zero. -/
def sixtyFour : IVec S_ 32 :=
  select (cmpi .eq (id (constantI S_ 32 64#32)) (constantI S_ 32 0#32)) (constantI S_ 32 1#32) (id (constantI S_ 32 64#32))

/-- The remainder of a word's division by 64, of the divisor's sign. -/
def featNo (q : IVec S393216 32) : IVec S393216 32 :=
  select (andi (cmpi .ne (cmpi .slt (Host.remsi q (rep sixtyFour)) (rep (constantI S_ 32 0#32)))
        (rep (cmpi .slt sixtyFour (constantI S_ 32 0#32))))
      (cmpi .ne (Host.remsi q (rep sixtyFour)) (rep (constantI S_ 32 0#32))))
    (addi (Host.remsi q (rep sixtyFour)) (rep sixtyFour))
    (Host.remsi q (rep sixtyFour))

/-- The column of each row's weight. -/
def colNo (i : IVec S2048x64 32) : IVec S393216 32 :=
  shapeCast S393216 (addi
    (broadcastInDim S131072x3 ![0, 1] bcast_S131072x1_S131072x3_0_1
      (broadcastInDim S131072x1 ![0] bcast_S131072_S131072x1_0 (shapeCast S131072 (muli i (fillI 3#32)) shapeCasts_S2048x64_S131072)))
    (broadcastInDim S131072x3 ![0, 1] bcast_S1x3_S131072x3_0_1 (broadcastInDim S1x3 ![1] bcast_S3_S1x3_1 (iotaInDim S3 32 0))))
    shapeCasts_S131072x3_S393216

/-- An index counted from the end when it is negative. -/
def wrapped (n : BitVec 32) (i : IVec S393216 32) : IVec S393216 32 :=
  select (cmpi .slt i (rep (constantI S_ 32 0#32))) (addi i (rep (constantI S_ 32 n))) i

/-- The pairs of indices of the gather. -/
def indices (f g : IVec S393216 32) : IVec S393216x2 32 :=
  concatenate S393216x2 1 [⟨S393216x1, broadcastInDim S393216x1 ![0] bcast_S393216_S393216x1_0 f⟩,
    ⟨S393216x1, broadcastInDim S393216x1 ![0] bcast_S393216_S393216x1_0 g⟩] concatenates_S393216x1_S393216x1_S393216x2_d1

/-- The gathered weights. -/
def taken (w : FVec F S64x64x384 .f32) (i : IVec S393216x2 32) : FVec F S64x393216 .f32 :=
  Host.gather gather_S64x64x384_S393216x2_S64x393216_0_12_n_n_12_1_6411 w i

/-- The reference's result. -/
def total (x : FVec F S2048x64 .f32) (w : FVec F S64x64x384 .f32) : FVec F S2048x64 .f32 :=
  Host.dotGeneral dot_S3x2048x64_S2048x64x64x3_S2048x64_02_31_n_2_1_0 none (bases (coords x))
    (transpose S2048x64x64x3 [1, 2, 0, 3]
      (shapeCast S64x2048x64x3 (taken w (indices (wrapped 64#32 (featNo pairNo)) (wrapped 384#32 (colNo (ids x)))))
        shapeCasts_S64x393216_S64x2048x64x3) transposes_S64x2048x64x3_S2048x64x64x3_1_2_0_3)

/-- What the reference's run leaves in its result is the stages' result. -/
theorem res_eq (m : (ℓ : Loc nD τ sig) → Buf (Elt F) ℓ) (c : Dev nD) :
    res_main_v100 m c = total (m ((c.tc : Thread nD τ).loc main_arg0)) (m ((c.tc : Thread nD τ).loc main_arg1)) := rfl

end Cert.ReferenceIdeal.Value

end
-- ==== Proof.RefIndex.lean ====
/- The index words of the reference's gather. Row `192 b + 3 k + i` reads the weight of feature `k` at column
   `3 s + i`, where `s` is the segment of token `b`'s input `k`. -/
module

public import proofs.«01_k».proof.Proof.RefSpec
public import Idealize.ShloMosaic.Lib.Pointwise
public import Idealize.ShloMosaic.Lib.Routing.Words

@[expose] public section

set_option maxRecDepth 16384

noncomputable section

namespace Cert.ReferenceIdeal.Value

open Cert.ReferenceIdeal Cert.ReferenceIdeal.Gen Idealize.ShloMosaic Idealize.ShloMosaic.Pointwise

/-- The number of a row's token and feature. -/
theorem pairNo_at (n : Fin 393216) : pairNo (ix1 n) = BitVec.ofNat 32 (n.val / 3) :=
  Routing.pyDiv_ap bcast_S_S393216 rowNo (id (constantI S_ 32 3#32)) (ix1 n) (a := n.val) (b := 3) rfl rfl (by omega) (by omega) (by omega)

/-- The remainder by 64 of a word that holds a natural number. -/
theorem featNo_at (q : IVec S393216 32) (n : Fin 393216) (a : ℕ) (ha : a < 2 ^ 31) (h : q (ix1 n) = BitVec.ofNat 32 a) :
    featNo q (ix1 n) = BitVec.ofNat 32 (a % 64) :=
  Routing.pyRem_ap bcast_S_S393216 q (id (constantI S_ 32 64#32)) (ix1 n) (a := a) (b := 64) h rfl ha (by omega) (by omega)

/-- An index that is not negative stays as it is. -/
theorem wrapped_at (w : BitVec 32) (q : IVec S393216 32) (n : Fin 393216) (a : ℕ) (ha : a < 2 ^ 31) (h : q (ix1 n) = BitVec.ofNat 32 a) :
    wrapped w q (ix1 n) = BitVec.ofNat 32 a := by
  pointwise [wrapped, rep]
  rw [h, show (0#32 : BitVec 32) = BitVec.ofNat 32 0 from rfl, WordCmp.cmpi_slt_ofNat (w := 32) ha (by decide)]
  simp only [Nat.not_lt_zero, decide_false]
  rfl

/-- The row of token `b`, feature `k` and node `i`. -/
def rowOf (b : Fin 2048) (k : Fin 64) (i : Fin 3) : Fin 393216 := ⟨b.val * 192 + k.val * 3 + i.val, by omega⟩

/-- The column word of a row, from the segment word of its input. -/
theorem colNo_at (q : IVec S2048x64 32) (b : Fin 2048) (k : Fin 64) (i : Fin 3) :
    colNo q (ix1 (rowOf b k i)) = q (ix2 b k) * 3#32 + BitVec.ofNat 32 i.val := by
  pointwise [colNo, fillI, rowOf]
  rfl

/-- The two columns of the pairs of indices. -/
theorem indices_at0 (f g : IVec S393216 32) (n : Fin 393216) : indices f g (ix2 n 0) = f (ix1 n) := by
  pointwise [indices]

/-- The second of them is the column. -/
theorem indices_at1 (f g : IVec S393216 32) (n : Fin 393216) : indices f g (ix2 n 1) = g (ix1 n) := by
  pointwise [indices]

/-- A word that holds a natural number within `[0, n]` is not moved by the gather's clamp. -/
theorem clamp_word (a n : ℕ) (ha : a ≤ n) (hn : n < 2 ^ 31) : min (BitVec.ofNat 32 a).toInt.toNat n = a := by
  have h : (BitVec.ofNat 32 a).toNat = a := by rw [BitVec.toNat_ofNat]; omega
  rw [BitVec.toInt_eq_toNat_of_lt (by omega), h]
  omega

/-- The gather reads, at output `o` and row `n`, the weight of output `o` at the feature and the column of the row. -/
theorem taken_at {F : FTy → Type} [FloatOps F] (w : FVec F S64x64x384 .f32) (i : IVec S393216x2 32) (o : Fin 64) (n : Fin 393216) (k : Fin 64) (j : Fin 384)
    (h0 : i (ix2 n 0) = BitVec.ofNat 32 k.val) (h1 : i (ix2 n 1) = BitVec.ofNat 32 j.val) :
    taken w i (ix2 o n) = w (ix3 o k j) := by
  unfold taken Host.gather
  congr 1
  funext a
  refine Fin.ext ?_
  show GatherDims.start _ _ i a + GatherDims.batchCoord _ _ a + GatherDims.offCoord _ _ a = _
  rw [GatherDims.batchCoord_eq_zero _ _ _ List.not_mem_nil, Nat.add_zero]
  fin_cases a
  · unfold GatherDims.start GatherDims.offCoord
    rw [dif_neg (by decide), dif_pos (by decide), Nat.zero_add]
    rfl
  · rw [GatherDims.offCoord_eq_zero _ _ _ (by decide)]
    unfold GatherDims.start
    rw [dif_pos (by decide)]
    refine Eq.trans ?_ (clamp_word k.val 63 (by omega) (by omega))
    rw [← h0]
    show min (i _).toInt.toNat 63 = _
    congr 4
    funext e
    refine Fin.ext ?_
    fin_cases e <;> rfl
  · rw [GatherDims.offCoord_eq_zero _ _ _ (by decide)]
    unfold GatherDims.start
    rw [dif_pos (by decide)]
    refine Eq.trans ?_ (clamp_word j.val 383 (by omega) (by omega))
    rw [← h1]
    show min (i _).toInt.toNat 383 = _
    congr 4
    funext e
    refine Fin.ext ?_
    fin_cases e <;> rfl

end Cert.ReferenceIdeal.Value

end
-- ==== Proof.RefTotal.lean ====
/- The reference's result at one cell, over the extended reals: the sum over the features and the nodes of a basis
   polynomial times the weight of the input's segment. -/
module

public import proofs.«01_k».proof.Proof.RefIndex
public import proofs.«01_k».proof.Proof.Reals

@[expose] public section

set_option maxRecDepth 16384

noncomputable section

namespace Cert.ReferenceIdeal.Value

open Cert.ReferenceIdeal Cert.ReferenceIdeal.Gen Cert.Spline Idealize.ShloMosaic Idealize.ShloMosaic.Pointwise

variable (x : FVec Ideal S2048x64 .f32) (w : FVec Ideal S64x64x384 .f32)

/-- The word of an input's segment. -/
theorem ids_at (b : Fin 2048) (k : Fin 64) : ids x (ix2 b k) = BitVec.ofNat 32 (seg (x (ix2 b k))).val := by
  rw [← seg_reference]
  pointwise [ids, fill, fillI]
  rw [c2, c128]
  rfl

/-- The place of the boundary whose index word holds `n`. -/
theorem boundary_at (q : IVec S2048x64 32) (b : Fin 2048) (k : Fin 64) (n : ℕ) (hn : n < 2 ^ 31) (h : q (ix2 b k) = BitVec.ofNat 32 n) :
    (boundary q : FVec Ideal S2048x64 .f32) (ix2 b k) = Ideal.div ((n : ℝ) : EReal) ((128 : ℝ) : EReal) * ((2 : ℝ) : EReal) - 1 := by
  pointwise [boundary, fill]
  rw [h, word_float _ _ hn, c2, c128]

/-- The local coordinate of an input. -/
theorem coords_at (b : Fin 2048) (k : Fin 64) : coords x (ix2 b k) = loc (x (ix2 b k)) := by
  have h0 := boundary_at (ids x) b k _ (by omega) (ids_at x b k)
  have h1 := boundary_at (addi (ids x) (fillI 1#32)) b k ((seg (x (ix2 b k))).val + 1) (by omega) (by
    pointwise [fillI]
    rw [ids_at]
    show BitVec.ofNat 32 _ + BitVec.ofNat 32 1 = _
    rw [BitVec.ofNat_add])
  push_cast at h1
  rw [loc, ← loc_reference]
  pointwise [coords, fill]
  rw [h0, h1, c2]
  rfl

/-- The stacked polynomials at a node and an input. -/
theorem bases_at (u : FVec Ideal S2048x64 .f32) (i : Fin 3) (b : Fin 2048) (k : Fin 64) :
    bases u (ix3 i b k) = poly i (u (ix2 b k)) := by
  fin_cases i
  · show _ = poly 0 _
    rw [← poly_reference0]
    pointwise [bases, lagrange, fill]
    rw [cNeg1, cNeg2]
  · show _ = poly 1 _
    rw [← poly_reference1]
    pointwise [bases, lagrange, fill]
    rw [cNeg1]
  · show _ = poly 2 _
    rw [← poly_reference2]
    pointwise [bases, lagrange, fill]
    rw [cNeg1, c2]

/-- The gathered weight of a token, a feature and a node: the one of the input's segment. -/
theorem weight_at (b : Fin 2048) (k : Fin 64) (i : Fin 3) (o : Fin 64) :
    taken w (indices (wrapped 64#32 (featNo pairNo)) (wrapped 384#32 (colNo (ids x)))) (ix2 o (rowOf b k i))
      = w (ix3 o k ⟨3 * (seg (x (ix2 b k))).val + i.val, by omega⟩) := by
  refine taken_at w _ o (rowOf b k i) k _ ?_ ?_
  · rw [indices_at0]
    refine wrapped_at _ _ _ _ (by omega) ?_
    rw [featNo_at _ _ _ (by have := (rowOf b k i).isLt; omega) (pairNo_at _)]
    congr 1
    show (b.val * 192 + k.val * 3 + i.val) / 3 % 64 = k.val
    omega
  · rw [indices_at1]
    refine wrapped_at _ _ _ _ (by show 3 * (seg (x (ix2 b k))).val + i.val < 2 ^ 31; omega) ?_
    rw [colNo_at, ids_at]
    show BitVec.ofNat 32 _ * BitVec.ofNat 32 3 + _ = _
    rw [← BitVec.ofNat_mul, ← BitVec.ofNat_add, mul_comm]

/-- The reference's result at token `b` and output `o`. -/
theorem total_at (b : Fin 2048) (o : Fin 64) :
    total x w (ix2 b o) = ∑ k : Fin 64, ∑ i : Fin 3, poly i (loc (x (ix2 b k)))
      * w (ix3 o k ⟨3 * (seg (x (ix2 b k))).val + i.val, by omega⟩) := by
  pointwise [total]
  rw [Finset.sum_comm]
  refine Finset.sum_congr rfl fun k _ => Finset.sum_congr rfl fun i _ => ?_
  rw [bases_at, coords_at]
  exact congrArg _ (weight_at x w b k i o)

end Cert.ReferenceIdeal.Value

end
-- ==== Proof.Equal.lean ====
/- The equation: from equal inputs and weights, the kernel's result and the reference's are equal at every cell, over
   the extended reals. Both are the sum over the features of the three basis polynomials times the segment's weights. -/
module

public import proofs.«01_k».proof.Proof.Total
public import proofs.«01_k».proof.Proof.RefTotal

@[expose] public section

noncomputable section

namespace Cert.Equal

open Idealize.ShloMosaic Idealize.ShloMosaic.TcCoe Idealize.SL.Sem Idealize.ShloMosaic.Pointwise

/-- The two results are one array when the two programs start from the same inputs and the same weights. -/
theorem results_equal
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (hx : m ((c.tc : Thread Cert.KernelIdeal.nD Cert.KernelIdeal.τ).loc Cert.KernelIdeal.main_arg0)
      = m' ((c.tc : Thread Cert.ReferenceIdeal.nD Cert.ReferenceIdeal.τ).loc Cert.ReferenceIdeal.main_arg0))
    (hw : m ((c.tc : Thread Cert.KernelIdeal.nD Cert.KernelIdeal.τ).loc Cert.KernelIdeal.main_arg1)
      = m' ((c.tc : Thread Cert.ReferenceIdeal.nD Cert.ReferenceIdeal.τ).loc Cert.ReferenceIdeal.main_arg1)) :
    Cert.ReferenceIdeal.Value.res_main_v100 (F := Ideal) m' c = Cert.KernelIdeal.Value.result m c := by
  rw [Cert.ReferenceIdeal.Value.res_eq, ← hx, ← hw]
  funext y
  rw [eq_ix2 y]
  exact (Cert.ReferenceIdeal.Value.total_at _ _ _ _).trans (Cert.KernelIdeal.Value.result_at m c _ _).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

/-- The reference runs, its arguments unchanged and every semaphore at zero: it has none. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference, from equal inputs and weights, end with equal results. -/
theorem equal : Cert.algebraic_KernelIdeal_ReferenceIdeal
    (hKernelIdeal := Cert.KernelIdeal.Gen.facts) (hReferenceIdeal := Cert.ReferenceIdeal.Gen.facts) := fun m ρ m' ρ' _ hag =>
  ⟨fun c => Cert.KernelIdeal.Value.result m c, Cert.KernelIdeal.Value.run m ρ,
    (θ_run Cert.ReferenceIdeal.defs _ _).mono
      (fun _ h c => ⟨(h c).1.trans (Cert.Equal.results_equal m m' c (hag c).1.symm (hag c).2.symm), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal⟩

end Cert.Proof

end
